-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_KernelIdeal_ReferenceIdeal_on_logits_and_deltas [hKernelIdeal : Cert.KernelIdeal.Facts] [hReferenceIdeal : Cert.ReferenceIdeal.Facts] [hOn_logits_and_deltas : Cert.On_logits_and_deltas.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 12288, 2]⟩ : Shape).Idx, (Cert.On_logits_and_deltas.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v0_0) i = v0 c i)
          ∧ (∀ i : (⟨3, ![2, 12288, 2]⟩ : Shape).Idx, (Cert.On_logits_and_deltas.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v0_1) i = v1 c i)
          ∧ (∀ i : (⟨3, ![2, 12288, 4]⟩ : Shape).Idx, (Cert.On_logits_and_deltas.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 12288, 2]⟩ : Shape).Idx, (Cert.On_logits_and_deltas.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v56) i = v0 c i)
          ∧ (∀ i : (⟨3, ![2, 12288, 2]⟩ : Shape).Idx, (Cert.On_logits_and_deltas.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v67) i = v1 c i)
          ∧ (∀ i : (⟨3, ![2, 12288, 4]⟩ : Shape).Idx, (Cert.On_logits_and_deltas.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.ReferenceIdeal.nD Cert.ReferenceIdeal.τ).loc Cert.ReferenceIdeal.main_v73) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts) (hOn_logits_and_deltas : Cert.On_logits_and_deltas.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_ReferenceIdeal_on_logits_and_deltas (hKernelIdeal := hKernelIdeal) (hReferenceIdeal := hReferenceIdeal) (hOn_logits_and_deltas := hOn_logits_and_deltas)
-- ==== On_logits_and_deltas.lean ====
abbrev S2x64x64x256 : Shape := ⟨4, ![2, 64, 64, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S_ : Shape := ⟨0, ![]⟩
abbrev S2x12288x2 : Shape := ⟨3, ![2, 12288, 2]⟩
abbrev S2x12288x4 : Shape := ⟨3, ![2, 12288, 4]⟩

class Facts : Prop where
  bcast_S_S2x12288x2 : S_.BroadcastsInDim S2x12288x2 (![] : Fin 0 → Fin S2x12288x2.rank)
  bcast_S_S2x12288x4 : S_.BroadcastsInDim S2x12288x4 (![] : Fin 0 → Fin S2x12288x4.rank)

variable [Facts]

def fn {F : FTy → Type} [FloatOps F] (main_arg0 : FVec F S2x64x64x256 .f32) (main_arg1 : FVec F S3x3x256x512 .f32) (main_arg2 : FVec F S512 .f32) (main_arg3 : FVec F S1x1x512x6 .f32) (main_arg4 : FVec F S6 .f32) (main_arg5 : FVec F S1x1x512x12 .f32) (main_arg6 : FVec F S12 .f32) : IVec S2x12288x2 1 × IVec S2x12288x2 1 × IVec S2x12288x4 1 :=
  let main_c : IVec S_ 1 := constantI S_ 1 1#1
  let main_v0 : IVec S2x12288x2 1 := broadcastInDim S2x12288x2 ![] bcast_S_S2x12288x2 main_c
  let main_c_0 : IVec S_ 1 := constantI S_ 1 0#1
  let main_v1 : IVec S2x12288x2 1 := broadcastInDim S2x12288x2 ![] bcast_S_S2x12288x2 main_c_0
  let main_c_1 : IVec S_ 1 := constantI S_ 1 1#1
  let main_v2 : IVec S2x12288x4 1 := broadcastInDim S2x12288x4 ![] bcast_S_S2x12288x4 main_c_1
  (main_v0, main_v1, main_v2)
-- ==== Pre_finite.lean ====
abbrev S2x64x64x256 : Shape := ⟨4, ![2, 64, 64, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S_ : Shape := ⟨0, ![]⟩

class Facts : Prop where
  bcast_S_S2x64x64x256 : S_.BroadcastsInDim S2x64x64x256 (![] : Fin 0 → Fin S2x64x64x256.rank)
  reducesTo_S2x64x64x256_S_d0_1_2_3 : S2x64x64x256.ReducesTo [0, 1, 2, 3] S_
  h_S_ : 0 < S_.numel
  bcast_S_S3x3x256x512 : S_.BroadcastsInDim S3x3x256x512 (![] : Fin 0 → Fin S3x3x256x512.rank)
  reducesTo_S3x3x256x512_S_d0_1_2_3 : S3x3x256x512.ReducesTo [0, 1, 2, 3] S_
  bcast_S_S512 : S_.BroadcastsInDim S512 (![] : Fin 0 → Fin S512.rank)
  reducesTo_S512_S_d0 : S512.ReducesTo [0] S_
  bcast_S_S1x1x512x6 : S_.BroadcastsInDim S1x1x512x6 (![] : Fin 0 → Fin S1x1x512x6.rank)
  reducesTo_S1x1x512x6_S_d0_1_2_3 : S1x1x512x6.ReducesTo [0, 1, 2, 3] S_
  bcast_S_S6 : S_.BroadcastsInDim S6 (![] : Fin 0 → Fin S6.rank)
  reducesTo_S6_S_d0 : S6.ReducesTo [0] S_

variable [Facts]

def fn_part1 {F : FTy → Type} [FloatOps F] (main_arg4 : FVec F S6 .f32) (main_v13 : IVec S_ 1) (main_v16 : IVec S1x1x512x6 1) : IVec S_ 1 :=
  let main_c_5 : IVec S_ 1 := constantI S_ 1 1#1
  let main_v17 : IVec S_ 1 := (fun x v => Host.reduce IntOp.andi x v reducesTo_S1x1x512x6_S_d0_1_2_3 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  main_v23

def fn {F : FTy → Type} [FloatOps F] (main_arg0 : FVec F S2x64x64x256 .f32) (main_arg1 : FVec F S3x3x256x512 .f32) (main_arg2 : FVec F S512 .f32) (main_arg3 : FVec F S1x1x512x6 .f32) (main_arg4 : FVec F S6 .f32) (main_arg5 : FVec F S1x1x512x12 .f32) (main_arg6 : FVec F S12 .f32) : IVec S_ 1 :=
  let main_v0 : FVec F S2x64x64x256 .f32 := Host.absf main_arg0
  let main_cst : FVec F S_ .f32 := constant S_ .f32 0x7F800000#32
  let main_v1 : FVec F S2x64x64x256 .f32 := broadcastInDim S2x64x64x256 ![] bcast_S_S2x64x64x256 main_cst
  let main_v2 : IVec S2x64x64x256 1 := cmpf .olt main_v0 main_v1
  let main_c : IVec S_ 1 := constantI S_ 1 1#1
  let main_v3 : IVec S_ 1 := (fun x v => Host.reduce IntOp.andi x v reducesTo_S2x64x64x256_S_d0_1_2_3 h_S_) main_v2 main_c
  let main_v4 : FVec F S3x3x256x512 .f32 := Host.absf main_arg1
  let main_cst_0 : FVec F S_ .f32 := constant S_ .f32 0x7F800000#32
  let main_v5 : FVec F S3x3x256x512 .f32 := broadcastInDim S3x3x256x512 ![] bcast_S_S3x3x256x512 main_cst_0
  let main_v6 : IVec S3x3x256x512 1 := cmpf .olt main_v4 main_v5
  let main_c_1 : IVec S_ 1 := constantI S_ 1 1#1
  let main_v7 : IVec S_ 1 := (fun x v => Host.reduce IntOp.andi x v reducesTo_S3x3x256x512_S_d0_1_2_3 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x1x512x6 .f32 := Host.absf main_arg3
  let main_cst_4 : FVec F S_ .f32 := constant S_ .f32 0x7F800000#32
  let main_v15 : FVec F S1x1x512x6 .f32 := broadcastInDim S1x1x512x6 ![] bcast_S_S1x1x512x6 main_cst_4
  let main_v16 : IVec S1x1x512x6 1 := cmpf .olt main_v14 main_v15
  fn_part1 (F := F) main_arg4 main_v13 main_v16
-- ==== Kernel.lean ====
abbrev S2x64x64x256 : Shape := ⟨4, ![2, 64, 64, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S_ : Shape := ⟨0, ![]⟩
abbrev S2x66x66x256 : Shape := ⟨4, ![2, 66, 66, 256]⟩
abbrev S2304x512 : Shape := ⟨2, ![2304, 512]⟩
abbrev S512x6 : Shape := ⟨2, ![512, 6]⟩
abbrev S512x12 : Shape := ⟨2, ![512, 12]⟩
abbrev S512x18 : Shape := ⟨2, ![512, 18]⟩
abbrev S1x512 : Shape := ⟨2, ![1, 512]⟩
abbrev S18 : Shape := ⟨1, ![18]⟩
abbrev S1x18 : Shape := ⟨2, ![1, 18]⟩
abbrev S2x4096x6 : Shape := ⟨3, ![2, 4096, 6]⟩
abbrev S2x4096x12 : Shape := ⟨3, ![2, 4096, 12]⟩
abbrev S2x12288x2 : Shape := ⟨3, ![2, 12288, 2]⟩
abbrev S2x12288x4 : Shape := ⟨3, ![2, 12288, 4]⟩
abbrev S1x66x66x256 : Shape := ⟨4, ![1, 66, 66, 256]⟩
abbrev S1x1024x6 : Shape := ⟨3, ![1, 1024, 6]⟩
abbrev S1x1024x12 : Shape := ⟨3, ![1, 1024, 12]⟩
abbrev S1x16x66x256 : Shape := ⟨4, ![1, 16, 66, 256]⟩
abbrev S16x66x256 : Shape := ⟨3, ![16, 66, 256]⟩
abbrev S16x64x256 : Shape := ⟨3, ![16, 64, 256]⟩
abbrev S1024x256 : Shape := ⟨2, ![1024, 256]⟩
abbrev S1024x2304 : Shape := ⟨2, ![1024, 2304]⟩
abbrev S1024x512 : Shape := ⟨2, ![1024, 512]⟩
abbrev S1024x18 : Shape := ⟨2, ![1024, 18]⟩
abbrev S1024x6 : Shape := ⟨2, ![1024, 6]⟩
abbrev S1024x12 : Shape := ⟨2, ![1024, 12]⟩
abbrev S1024x5 : Shape := ⟨2, ![1024, 5]⟩
abbrev S1024x1 : Shape := ⟨2, ![1024, 1]⟩

abbrev nBuf : Space → Nat
  | .hbm => 26
  | .vmem => 12
  | .smem => 0
  | _ => 0

abbrev bufTy : (tb : Table) → Fin (tcTables nBuf tb) → BufTy
  | .hbm, ⟨0, _⟩ => ⟨S2x64x64x256, .f32⟩
  | .hbm, ⟨1, _⟩ => ⟨S3x3x256x512, .f32⟩
  | .hbm, ⟨2, _⟩ => ⟨S512, .f32⟩
  | .hbm, ⟨3, _⟩ => ⟨S1x1x512x6, .f32⟩
  | .hbm, ⟨4, _⟩ => ⟨S6, .f32⟩
  | .hbm, ⟨5, _⟩ => ⟨S1x1x512x12, .f32⟩
  | .hbm, ⟨6, _⟩ => ⟨S12, .f32⟩
  | .hbm, ⟨7, _⟩ => ⟨S_, .i32⟩
  | .hbm, ⟨8, _⟩ => ⟨S_, .f32⟩
  | .hbm, ⟨9, _⟩ => ⟨S2x66x66x256, .f32⟩
  | .hbm, ⟨10, _⟩ => ⟨S2x66x66x256, .bf16⟩
  | .hbm, ⟨11, _⟩ => ⟨S2304x512, .f32⟩
  | .hbm, ⟨12, _⟩ => ⟨S2304x512, .bf16⟩
  | .hbm, ⟨13, _⟩ => ⟨S512x6, .f32⟩
  | .hbm, ⟨14, _⟩ => ⟨S512x12, .f32⟩
  | .hbm, ⟨15, _⟩ => ⟨S512x18, .f32⟩
  | .hbm, ⟨16, _⟩ => ⟨S512x18, .bf16⟩
  | .hbm, ⟨17, _⟩ => ⟨S1x512, .f32⟩
  | .hbm, ⟨18, _⟩ => ⟨S18, .f32⟩
  | .hbm, ⟨19, _⟩ => ⟨S1x18, .f32⟩
  | .hbm, ⟨20, _⟩ => ⟨S2x4096x6, .f32⟩
  | .hbm, ⟨21, _⟩ => ⟨S2x4096x6, .f32⟩
  | .hbm, ⟨22, _⟩ => ⟨S2x4096x12, .f32⟩
  | .hbm, ⟨23, _⟩ => ⟨S2x12288x2, .f32⟩
  | .hbm, ⟨24, _⟩ => ⟨S2x12288x2, .f32⟩
  | .hbm, ⟨25, _⟩ => ⟨S2x12288x4, .f32⟩
  | .local _ .vmem, ⟨0, _⟩ => ⟨S1x66x66x256, .bf16⟩
  | .local _ .vmem, ⟨1, _⟩ => ⟨S1x66x66x256, .bf16⟩
  | .local _ .vmem, ⟨2, _⟩ => ⟨S2304x512, .bf16⟩
  | .local _ .vmem, ⟨3, _⟩ => ⟨S1x512, .f32⟩
  | .local _ .vmem, ⟨4, _⟩ => ⟨S512x18, .bf16⟩
  | .local _ .vmem, ⟨5, _⟩ => ⟨S1x18, .f32⟩
  | .local _ .vmem, ⟨6, _⟩ => ⟨S1x1024x6, .f32⟩
  | .local _ .vmem, ⟨7, _⟩ => ⟨S1x1024x6, .f32⟩
  | .local _ .vmem, ⟨8, _⟩ => ⟨S1x1024x6, .f32⟩
  | .local _ .vmem, ⟨9, _⟩ => ⟨S1x1024x6, .f32⟩
  | .local _ .vmem, ⟨10, _⟩ => ⟨S1x1024x12, .f32⟩
  | .local _ .vmem, ⟨11, _⟩ => ⟨S1x1024x12, .f32⟩
  | _, _ => ⟨S2x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11_0 : Ref sig .tc := ⟨.hbm, 20, rfl⟩
abbrev main_call0_v11_1 : Ref sig .tc := ⟨.hbm, 21, rfl⟩
abbrev main_call0_v11_2 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 4], ![false, false]⟩

def k0_off1 (i : grid0.Coords) (c0_i32 : BitVec 32) : Fin 4 → Nat :=
  let c0 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let v2 : Index := Scalar.indexCast v1
  let c0_0 : Index := 0#32
  let c0_1 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x66x66x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2304x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x18 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x6 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x64x64x256 : Shape := ⟨4, ![2, 64, 64, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S_ : Shape := ⟨0, ![]⟩
abbrev S2x66x66x256 : Shape := ⟨4, ![2, 66, 66, 256]⟩
abbrev S2x64x64x512 : Shape := ⟨4, ![2, 64, 64, 512]⟩
abbrev S1x1x256x512 : Shape := ⟨4, ![1, 1, 256, 512]⟩
abbrev S256x512 : Shape := ⟨2, ![256, 512]⟩
abbrev S1x1x1x512 : Shape := ⟨4, ![1, 1, 1, 512]⟩
abbrev S512x6 : Shape := ⟨2, ![512, 6]⟩
abbrev S2x64x64x6 : Shape := ⟨4, ![2, 64, 64, 6]⟩
abbrev S1x1x1x6 : Shape := ⟨4, ![1, 1, 1, 6]⟩
abbrev S2x12288x2 : Shape := ⟨3, ![2, 12288, 2]⟩
abbrev S2x12288 : Shape := ⟨2, ![2, 12288]⟩
abbrev S2x12288x1 : Shape := ⟨3, ![2, 12288, 1]⟩
abbrev S512x12 : Shape := ⟨2, ![512, 12]⟩
abbrev S2x64x64x12 : Shape := ⟨4, ![2, 64, 64, 12]⟩
abbrev S1x1x1x12 : Shape := ⟨4, ![1, 1, 1, 12]⟩
abbrev S2x12288x4 : Shape := ⟨3, ![2, 12288, 4]⟩

abbrev nBuf : Space → Nat
  | .hbm => 89
  | .vmem => 0
  | .smem => 0
  | _ => 0

abbrev bufTy : (tb : Table) → Fin (tcTables nBuf tb) → BufTy
  | .hbm, ⟨0, _⟩ => ⟨S2x64x64x256, .f32⟩
  | .hbm, ⟨1, _⟩ => ⟨S3x3x256x512, .f32⟩
  | .hbm, ⟨2, _⟩ => ⟨S512, .f32⟩
  | .hbm, ⟨3, _⟩ => ⟨S1x1x512x6, .f32⟩
  | .hbm, ⟨4, _⟩ => ⟨S6, .f32⟩
  | .hbm, ⟨5, _⟩ => ⟨S1x1x512x12, .f32⟩
  | .hbm, ⟨6, _⟩ => ⟨S12, .f32⟩
  | .hbm, ⟨7, _⟩ => ⟨S_, .i32⟩
  | .hbm, ⟨8, _⟩ => ⟨S_, .f32⟩
  | .hbm, ⟨9, _⟩ => ⟨S2x66x66x256, .f32⟩
  | .hbm, ⟨10, _⟩ => ⟨S_, .f32⟩
  | .hbm, ⟨11, _⟩ => ⟨S2x64x64x512, .f32⟩
  | .hbm, ⟨12, _⟩ => ⟨S2x64x64x256, .f32⟩
  | .hbm, ⟨13, _⟩ => ⟨S1x1x256x512, .f32⟩
  | .hbm, ⟨14, _⟩ => ⟨S256x512, .f32⟩
  | .hbm, ⟨15, _⟩ => ⟨S2x64x64x512, .f32⟩
  | .hbm, ⟨16, _⟩ => ⟨S2x64x64x512, .f32⟩
  | .hbm, ⟨17, _⟩ => ⟨S2x64x64x256, .f32⟩
  | .hbm, ⟨18, _⟩ => ⟨S1x1x256x512, .f32⟩
  | .hbm, ⟨19, _⟩ => ⟨S256x512, .f32⟩
  | .hbm, ⟨20, _⟩ => ⟨S2x64x64x512, .f32⟩
  | .hbm, ⟨21, _⟩ => ⟨S2x64x64x512, .f32⟩
  | .hbm, ⟨22, _⟩ => ⟨S2x64x64x256, .f32⟩
  | .hbm, ⟨23, _⟩ => ⟨S1x1x256x512, .f32⟩
  | .hbm, ⟨24, _⟩ => ⟨S256x512, .f32⟩
  | .hbm, ⟨25, _⟩ => ⟨S2x64x64x512, .f32⟩
  | .hbm, ⟨26, _⟩ => ⟨S2x64x64x512, .f32⟩
  | .hbm, ⟨27, _⟩ => ⟨S2x64x64x256, .f32⟩
  | .hbm, ⟨28, _⟩ => ⟨S1x1x256x512, .f32⟩
  | .hbm, ⟨29, _⟩ => ⟨S256x512, .f32⟩
  | .hbm, ⟨30, _⟩ => ⟨S2x64x64x512, .f32⟩
  | .hbm, ⟨31, _⟩ => ⟨S2x64x64x512, .f32⟩
  | .hbm, ⟨32, _⟩ => ⟨S2x64x64x256, .f32⟩
  | .hbm, ⟨33, _⟩ => ⟨S1x1x256x512, .f32⟩
  | .hbm, ⟨34, _⟩ => ⟨S256x512, .f32⟩
  | .hbm, ⟨35, _⟩ => ⟨S2x64x64x512, .f32⟩
  | .hbm, ⟨36, _⟩ => ⟨S2x64x64x512, .f32⟩
  | .hbm, ⟨37, _⟩ => ⟨S2x64x64x256, .f32⟩
  | .hbm, ⟨38, _⟩ => ⟨S1x1x256x512, .f32⟩
  | .hbm, ⟨39, _⟩ => ⟨S256x512, .f32⟩
  | .hbm, ⟨40, _⟩ => ⟨S2x64x64x512, .f32⟩
  | .hbm, ⟨41, _⟩ => ⟨S2x64x64x512, .f32⟩
  | .hbm, ⟨42, _⟩ => ⟨S2x64x64x256, .f32⟩
  | .hbm, ⟨43, _⟩ => ⟨S1x1x256x512, .f32⟩
  | .hbm, ⟨44, _⟩ => ⟨S256x512, .f32⟩
  | .hbm, ⟨45, _⟩ => ⟨S2x64x64x512, .f32⟩
  | .hbm, ⟨46, _⟩ => ⟨S2x64x64x512, .f32⟩
  | .hbm, ⟨47, _⟩ => ⟨S2x64x64x256, .f32⟩
  | .hbm, ⟨48, _⟩ => ⟨S1x1x256x512, .f32⟩
  | .hbm, ⟨49, _⟩ => ⟨S256x512, .f32⟩
  | .hbm, ⟨50, _⟩ => ⟨S2x64x64x512, .f32⟩
  | .hbm, ⟨51, _⟩ => ⟨S2x64x64x512, .f32⟩
  | .hbm, ⟨52, _⟩ => ⟨S2x64x64x256, .f32⟩
  | .hbm, ⟨53, _⟩ => ⟨S1x1x256x512, .f32⟩
  | .hbm, ⟨54, _⟩ => ⟨S256x512, .f32⟩
  | .hbm, ⟨55, _⟩ => ⟨S2x64x64x512, .f32⟩
  | .hbm, ⟨56, _⟩ => ⟨S2x64x64x512, .f32⟩
  | .hbm, ⟨57, _⟩ => ⟨S1x1x1x512, .f32⟩
  | .hbm, ⟨58, _⟩ => ⟨S2x64x64x512, .f32⟩
  | .hbm, ⟨59, _⟩ => ⟨S2x64x64x512, .f32⟩
  | .hbm, ⟨60, _⟩ => ⟨S_, .f32⟩
  | .hbm, ⟨61, _⟩ => ⟨S2x64x64x512, .f32⟩
  | .hbm, ⟨62, _⟩ => ⟨S2x64x64x512, .f32⟩
  | .hbm, ⟨63, _⟩ => ⟨S512x6, .f32⟩
  | .hbm, ⟨64, _⟩ => ⟨S2x64x64x6, .f32⟩
  | .hbm, ⟨65, _⟩ => ⟨S1x1x1x6, .f32⟩
  | .hbm, ⟨66, _⟩ => ⟨S2x64x64x6, .f32⟩
  | .hbm, ⟨67, _⟩ => ⟨S2x64x64x6, .f32⟩
  | .hbm, ⟨68, _⟩ => ⟨S2x12288x2, .f32⟩
  | .hbm, ⟨69, _⟩ => ⟨S_, .f32⟩
  | .hbm, ⟨70, _⟩ => ⟨S2x12288, .f32⟩
  | .hbm, ⟨71, _⟩ => ⟨S_, .f32⟩
  | .hbm, ⟨72, _⟩ => ⟨S2x12288, .f32⟩
  | .hbm, ⟨73, _⟩ => ⟨S2x12288, .f32⟩
  | .hbm, ⟨74, _⟩ => ⟨S2x12288x1, .f32⟩
  | .hbm, ⟨75, _⟩ => ⟨S2x12288x2, .f32⟩
  | .hbm, ⟨76, _⟩ => ⟨S2x12288x2, .f32⟩
  | .hbm, ⟨77, _⟩ => ⟨S2x12288x2, .f32⟩
  | .hbm, ⟨78, _⟩ => ⟨S_, .f32⟩
  | .hbm, ⟨79, _⟩ => ⟨S2x12288, .f32⟩
  | .hbm, ⟨80, _⟩ => ⟨S2x12288x1, .f32⟩
  | .hbm, ⟨81, _⟩ => ⟨S2x12288x2, .f32⟩
  | .hbm, ⟨82, _⟩ => ⟨S2x12288x2, .f32⟩
  | .hbm, ⟨83, _⟩ => ⟨S512x12, .f32⟩
  | .hbm, ⟨84, _⟩ => ⟨S2x64x64x12, .f32⟩
  | .hbm, ⟨85, _⟩ => ⟨S1x1x1x12, .f32⟩
  | .hbm, ⟨86, _⟩ => ⟨S2x64x64x12, .f32⟩
  | .hbm, ⟨87, _⟩ => ⟨S2x64x64x12, .f32⟩
  | .hbm, ⟨88, _⟩ => ⟨S2x12288x4, .f32⟩
  | _, _ => ⟨S2x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_call1_cst : Ref sig .tc := ⟨.hbm, 60, rfl⟩
abbrev main_call1_v0 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_0 : Ref sig .tc := ⟨.hbm, 69, rfl⟩
abbrev main_v57 : Ref sig .tc := ⟨.hbm, 70, rfl⟩
abbrev main_cst_1 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_2 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩

abbrev nD : Nat := 1
abbrev τ : Topo := Topo.v7x

variable {F : FTy → Type} [FloatOps F]
-- ==== Proof.Run.lean ====
module

public import proofs.«01_k».proof.Proof.Gen.KernelIdeal.Frame
public import Idealize.ShloMosaic.Lib.Claim
public import Idealize.ShloMosaic.PureOps.Ideal.Laws
public import Idealize.ShloMosaic.Lib.StableHlo.RunRead

@[expose] public section

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After the last line of @main the first result is the array of window 5, with its last two axes regrouped. -/
theorem tail_0 (c : Dev nD) :
    Pipeline.afterTail₀ cfgs (dats m) 0 (V0 m) [hostOps1] c main_v0_0
      = shapeCast S2x12288x2 ((dats m 0 c).arrAt 5 cfg0.N) shapeCasts_S2x4096x6_S2x12288x2 := by
  unfold Pipeline.afterTail₀
  simp only [hostOps1, List.flatten_cons, List.flatten_nil, List.append_nil]
  after_results
  erw [Pipeline.withArrays_arr spec0 (by decide) c (V0 m c) _ 5]
  rfl

/-- After the last line of @main the second result is the array of window 6, with its last two axes regrouped. -/
theorem tail_1 (c : Dev nD) :
    Pipeline.afterTail₀ cfgs (dats m) 0 (V0 m) [hostOps1] c main_v0_1
      = shapeCast S2x12288x2 ((dats m 0 c).arrAt 6 cfg0.N) shapeCasts_S2x4096x6_S2x12288x2 := by
  unfold Pipeline.afterTail₀
  simp only [hostOps1, List.flatten_cons, List.flatten_nil, List.append_nil]
  after_results
  erw [Pipeline.withArrays_arr spec0 (by decide) c (V0 m c) _ 6]
  rfl

/-- After the last line of @main the third result is the array of window 7, with its last two axes regrouped. -/
theorem tail_2 (c : Dev nD) :
    Pipeline.afterTail₀ cfgs (dats m) 0 (V0 m) [hostOps1] c main_v0_2
      = shapeCast S2x12288x4 ((dats m 0 c).arrAt 7 cfg0.N) shapeCasts_S2x4096x12_S2x12288x4 := by
  unfold Pipeline.afterTail₀
  simp only [hostOps1, List.flatten_cons, List.flatten_nil, List.append_nil]
  after_results
  erw [Pipeline.withArrays_arr spec0 (by decide) c (V0 m c) _ 7]
  rfl

/-- Every run of the kernel's program ends with the three results at the regrouped output arrays of the region, and
    with the arguments as launched. -/
theorem run : θ_run defs (onTc (τ := τ) (main (F := Ideal))) ⟨m, fun _ => 0, ρ⟩ (fun r => ∀ c : Dev nD,
      (r.2.mem ((c.tc : Thread nD τ).loc main_v0_0) = shapeCast S2x12288x2 ((dats m 0 c).arrAt 5 cfg0.N) shapeCasts_S2x4096x6_S2x12288x2
      ∧ r.2.mem ((c.tc : Thread nD τ).loc main_v0_1) = shapeCast S2x12288x2 ((dats m 0 c).arrAt 6 cfg0.N) shapeCasts_S2x4096x6_S2x12288x2
      ∧ r.2.mem ((c.tc : Thread nD τ).loc main_v0_2) = shapeCast S2x12288x4 ((dats m 0 c).arrAt 7 cfg0.N) shapeCasts_S2x4096x12_S2x12288x4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨⟨
      ((h c).2 main_v0_0 (Pipeline.mem_restRefs_of main_v0_0 (by decide) (by decide))).trans (tail_0 m c),
      ((h c).2 main_v0_1 (Pipeline.mem_restRefs_of main_v0_1 (by decide) (by decide))).trans (tail_1 m c),
      ((h c).2 main_v0_2 (Pipeline.mem_restRefs_of main_v0_2 (by decide) (by decide))).trans (tail_2 m c)⟩,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.Block.lean ====
module

public import proofs.«01_k».proof.Proof.Gen.KernelIdeal.Frame
public import Idealize.ShloMosaic.Lib.Pipeline.Value
public import Idealize.ShloMosaic.Lib.Pointwise
public import Idealize.ShloMosaic.PureOps.Ideal.Laws

@[expose] public section

set_option maxRecDepth 16384

noncomputable section

namespace Cert.KernelIdeal.Result

open Cert.KernelIdeal Cert.KernelIdeal.Gen Idealize.ShloMosaic Idealize.ShloMosaic.TcCoe Idealize.SL.Sem

/-! ## What the body stores, as functions of the blocks it reads -/

/-- The two offsets of a whole matrix are zero. -/
theorem hz2 : (![0, 0] : Fin 2 → Nat) = fun _ => 0 := funext fun a => by fin_cases a <;> rfl
/-- So are the three offsets of a whole rank-three array. -/
theorem hz3 : (![0, 0, 0] : Fin 3 → Nat) = fun _ => 0 := funext fun a => by fin_cases a <;> rfl

/-- The sixteen padded image rows that the body loads at row shift `r`. -/
def rows (i : grid0.Coords) (r : Fin 3) (x : Vec Ideal S1x66x66x256 .bf16) : Vec Ideal S1x16x66x256 .bf16 :=
  View.ld x (Rect.unit (s := S1x66x66x256) (k0_off1 i (BitVec.ofNat 32 r.val)) S1x16x66x256.size (k0_off1_inb i r))

/-- The convolution with its bias, before the positive part, of one block. -/
def convBlk (i : grid0.Coords) (x : Vec Ideal S1x66x66x256 .bf16) (w : Vec Ideal S2304x512 .bf16) (b : Vec Ideal S1x512 .f32) :
    FVec Ideal S1024x512 .f32 :=
  k0_pay3 (rows i 0 x) (rows i 1 x) (rows i 2 x) w b

/-- The body's zero. -/
abbrev zero : Ideal .f32 := Scalar.ofBits .f32 0x00000000#32

section
variable (c : Dev nD) (i : grid0.Coords) (arg2 : Memref sig .tc .vmem S1x66x66x256 .bf16) (harg2 : arg2.IsWhole) (arg3 : Memref sig .tc .vmem S2304x512 .bf16) (harg3 : arg3.IsWhole) (arg4 : Memref sig .tc .vmem S1x512 .f32) (harg4 : arg4.IsWhole) (arg5 : Memref sig .tc .vmem S512x18 .bf16) (harg5 : arg5.IsWhole) (arg6 : Memref sig .tc .vmem S1x18 .f32) (harg6 : arg6.IsWhole) (arg7 : Memref sig .tc .vmem S1x1024x6 .f32) (harg7 : arg7.IsWhole) (arg8 : Memref sig .tc .vmem S1x1024x6 .f32) (harg8 : arg8.IsWhole) (arg9 : Memref sig .tc .vmem S1x1024x12 .f32) (harg9 : arg9.IsWhole)
  (x0 : Vec Ideal S1x66x66x256 .bf16) (x1 : Vec Ideal S2304x512 .bf16) (x2 : Vec Ideal S1x512 .f32) (x3 : Vec Ideal S512x18 .bf16) (x4 : Vec Ideal S1x18 .f32)

/-- The logits' staging buffer ends at the logits of the block. -/
theorem out_5 : out0_A_5 c i arg2 harg2 arg3 harg3 arg4 harg4 arg5 harg5 arg6 harg6 arg7 harg7 arg8 harg8 arg9 harg9 x0 x1 x2 x3 x4
    = k0_pay8 (convBlk i x0 x1 x2) zero x3 x4 := by
  unfold out0_A_5
  rw [View.read_writes_eq_canon _ _ _ (cover0_A_5 c i arg2 harg2 arg3 harg3 arg4 harg4 arg5 harg5 arg6 harg6 arg7 harg7 arg8 harg8 arg9 harg9 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S2304x512) hz2, View.ld_unit_zero (S := S1x512) hz2, View.ld_unit_zero (S := S512x18) hz2, View.ld_unit_zero (S := S1x18) hz2]
  rfl

/-- The probabilities' staging buffer ends at the probabilities of the block. -/
theorem out_6 : out0_A_6 c i arg2 harg2 arg3 harg3 arg4 harg4 arg5 harg5 arg6 harg6 arg7 harg7 arg8 harg8 arg9 harg9 x0 x1 x2 x3 x4
    = k0_pay1 (k0_pay7 (convBlk i x0 x1 x2) zero x3 x4) := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S2304x512) hz2, View.ld_unit_zero (S := S1x512) hz2, View.ld_unit_zero (S := S512x18) hz2, View.ld_unit_zero (S := S1x18) hz2]
  rfl

/-- The deltas' staging buffer ends at the deltas of the block. -/
theorem out_7 : out0_A_7 c i arg2 harg2 arg3 harg3 arg4 harg4 arg5 harg5 arg6 harg6 arg7 harg7 arg8 harg8 arg9 harg9 x0 x1 x2 x3 x4
    = k0_pay2 (k0_pay6 (convBlk i x0 x1 x2) zero x3 x4) := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S2304x512) hz2, View.ld_unit_zero (S := S1x512) hz2, View.ld_unit_zero (S := S512x18) hz2, View.ld_unit_zero (S := S1x18) hz2]
  rfl

end

end Cert.KernelIdeal.Result

end
-- ==== Proof.Payload.lean ====
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.KernelIdeal.Result

open Cert.KernelIdeal Cert.KernelIdeal.Gen Idealize.ShloMosaic Idealize.ShloMosaic.TcCoe Idealize.SL.Sem

/-! ## The stored values read at an index -/

/-- A sum over 2304 places is nine sums over 256 places, in order. -/
theorem sum_nine (f : Fin 2304 → EReal) :
    ∑ x, f x = ∑ j : Fin 9, ∑ c : Fin 256, f ⟨256 * j.val + c.val, by omega⟩ := by
  rw [← (finProdFinEquiv (m := 9) (n := 256)).sum_comp f, Fintype.sum_prod_type]
  refine Finset.sum_congr rfl fun j _ => Finset.sum_congr rfl fun c _ => congrArg f (Fin.ext ?_)
  show c.val + 256 * j.val = 256 * j.val + c.val
  omega

/-- A sum over nine places, written out. -/
theorem sum_fin_nine (g : Fin 9 → EReal) : ∑ j, g j = g 0 + g 1 + g 2 + g 3 + g 4 + g 5 + g 6 + g 7 + g 8 := by
  simp only [Fin.sum_univ_castSucc, Finset.univ_eq_empty, Finset.sum_empty, zero_add]
  rfl

/-- A block read at two indices of equal coordinates. -/
theorem four_congr (v : Vec Ideal S1x16x66x256 .bf16) {p p' : Fin 16} {q q' : Fin 66} {c c' : Fin 256}
    (hp : p.val = p'.val) (hq : q.val = q'.val) (hc : c.val = c'.val) : v (ix4 0 p q c) = v (ix4 0 p' q' c') := by
  rw [Fin.ext hp, Fin.ext hq, Fin.ext hc]

/-- One of the nine products, read at row `r` and column `n`: the patch at column shift `d` of the rows `v`, times the
    256 rows of the weights that start at row `256 * j`. -/
def tap (v : Vec Ideal S1x16x66x256 .bf16) (w : Vec Ideal S2304x512 .bf16) (j : Fin 9) (d : Fin 3) (r : Fin 1024) (n : Fin 512) : EReal :=
  ∑ c : Fin 256, v (ix4 0 (⟨r.val / 64, by omega⟩ : Fin 16) (⟨d.val + r.val % 64, by omega⟩ : Fin 66) c) * w (ix2 (⟨256 * j.val + c.val, by omega⟩ : Fin 2304) n)

/-- The convolution of a block, read at a row and a channel: nine products, summed in order, and the bias. -/
theorem pay3_apply (v3 v13 v23 : Vec Ideal S1x16x66x256 .bf16) (w : Vec Ideal S2304x512 .bf16) (b : Vec Ideal S1x512 .f32)
    (r : Fin 1024) (n : Fin 512) : k0_pay3 v3 v13 v23 w b (ix2 r n)
      = (tap v3 w 0 0 r n + tap v3 w 1 1 r n + tap v3 w 2 2 r n + tap v13 w 3 0 r n + tap v13 w 4 1 r n + tap v13 w 5 2 r n
          + tap v23 w 6 0 r n + tap v23 w 7 1 r n + tap v23 w 8 2 r n) + b (ix2 0 n) := by
  pointwise [k0_pay3]
  rw [sum_nine, sum_fin_nine]
  refine congrArg₂ (· + ·) ?_ rfl
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  all_goals
    unfold tap
    refine Finset.sum_congr rfl fun c _ => congrArg₂ (· * ·) ?_ rfl
    have hc := c.isLt
    simp (disch := omega) only [dif_pos, dif_neg, Fin.isValue, Fin.val_zero, Fin.val_one, Fin.val_two]
    exact four_congr _ rfl (by first | rfl | (simp; done) | (simp <;> omega)) (by first | rfl | omega | (simp <;> omega))

/-- The heads' product with its bias, read at a row and a column. -/
theorem pay4_apply (h : FVec Ideal S1024x512 .f32) (z : Ideal .f32) (w : Vec Ideal S512x18 .bf16) (b : Vec Ideal S1x18 .f32)
    (r : Fin 1024) (n : Fin 18) : k0_pay4 h z w b (ix2 r n) = ∑ x : Fin 512, max (h (ix2 r x)) z * w (ix2 x n) + b (ix2 0 n) := by
  pointwise [k0_pay4]

/-- The stored logits are the first six columns. -/
theorem pay8_apply (h : FVec Ideal S1024x512 .f32) (z : Ideal .f32) (w : Vec Ideal S512x18 .bf16) (b : Vec Ideal S1x18 .f32)
    (r : Fin 1024) (n : Fin 6) : k0_pay8 h z w b (ix3 0 r n) = k0_pay4 h z w b (ix2 r (⟨n.val, by omega⟩ : Fin 18)) := by
  pointwise [k0_pay8, k0_pay5]

/-- The stored deltas are the last twelve columns. -/
theorem pay2_apply (h : FVec Ideal S1024x512 .f32) (z : Ideal .f32) (w : Vec Ideal S512x18 .bf16) (b : Vec Ideal S1x18 .f32)
    (r : Fin 1024) (n : Fin 12) : k0_pay2 (k0_pay6 h z w b) (ix3 0 r n) = k0_pay4 h z w b (ix2 r (⟨6 + n.val, by omega⟩ : Fin 18)) := by
  pointwise [k0_pay2, k0_pay6]

/-- The other column of a column's pair. -/
def mate (n : Fin 6) : Fin 6 := ⟨2 * (n.val / 2) + (1 - n.val % 2), by omega⟩

/-- The stored probabilities are the logistic of a logit less the other logit of its pair. -/
theorem pay1_apply (h : FVec Ideal S1024x512 .f32) (z : Ideal .f32) (w : Vec Ideal S512x18 .bf16) (b : Vec Ideal S1x18 .f32)
    (r : Fin 1024) (n : Fin 6) : k0_pay1 (k0_pay7 h z w b) (ix3 0 r n)
      = Ideal.logistic (k0_pay4 h z w b (ix2 r (⟨n.val, by omega⟩ : Fin 18)) - k0_pay4 h z w b (ix2 r (⟨(mate n).val, by omega⟩ : Fin 18))) := by
  pointwise [k0_pay1, k0_pay7, k0_pay5]
  generalize k0_pay4 h z w b = P
  fin_cases n <;> refine congrArg Ideal.logistic (congrArg₂ (· - ·) rfl ?_)
  all_goals rfl

end Cert.KernelIdeal.Result

end
-- ==== Proof.Entry.lean ====
module

public import proofs.«01_k».proof.Proof.Gen.KernelIdeal.Frame
public import Idealize.ShloMosaic.Lib.Claim
public import Idealize.ShloMosaic.Lib.Pipeline.Value
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ)

/-! ## The arrays the pipelined call reads, from the arguments -/

/-- The images with one row and one column of zeros on each side. -/
def padded (x : FVec Ideal S2x64x64x256 .f32) : FVec Ideal S2x66x66x256 .f32 :=
  pad S2x66x66x256 ![0, 1, 1, 0] ![0, 1, 1, 0] ![0, 0, 0, 0] x (sitofp .f32 (constantI S_ 32 0#32))
    pads_S2x64x64x256_S2x66x66x256_000_110_110_000 h_S_

/-- The shared weights with the window's two axes and the channels in one. -/
def stacked (x : FVec Ideal S3x3x256x512 .f32) : FVec Ideal S2304x512 .f32 := shapeCast S2304x512 x shapeCasts_S3x3x256x512_S2304x512

/-- The two heads' weights side by side. -/
def heads (x : FVec Ideal S1x1x512x6 .f32) (y : FVec Ideal S1x1x512x12 .f32) : FVec Ideal S512x18 .f32 :=
  concatenate S512x18 1 [⟨S512x6, shapeCast S512x6 x shapeCasts_S1x1x512x6_S512x6⟩,
    ⟨S512x12, shapeCast S512x12 y shapeCasts_S1x1x512x12_S512x12⟩] concatenates_S512x6_S512x12_S512x18_d1

/-- The two heads' biases side by side. -/
def biases (x : FVec Ideal S6 .f32) (y : FVec Ideal S12 .f32) : FVec Ideal S1x18 .f32 :=
  shapeCast S1x18 (concatenate S18 0 [⟨S6, x⟩, ⟨S12, y⟩] concatenates_S6_S12_S18_d0) shapeCasts_S18_S1x18

/-- The call's images are the padded ones. -/
theorem entry_images (c : Dev nD) : V m c main_call0_v1 = padded (m ((c.tc : Thread nD τ).loc main_arg0)) := by
  entry_read
  simp only [hostOps0, List.flatten_cons, List.flatten_nil, List.append_nil]
  after_results
  rfl

/-- The call's shared weights. -/
theorem entry_weights (c : Dev nD) : V m c main_call0_v3 = stacked (m ((c.tc : Thread nD τ).loc main_arg1)) := by
  entry_read
  simp only [hostOps0, List.flatten_cons, List.flatten_nil, List.append_nil]
  after_results
  rfl

/-- The call's shared bias. -/
theorem entry_bias (c : Dev nD) : V m c main_call0_v8 = shapeCast S1x512 (m ((c.tc : Thread nD τ).loc main_arg2)) shapeCasts_S512_S1x512 := by
  entry_read
  simp only [hostOps0, List.flatten_cons, List.flatten_nil, List.append_nil]
  after_results
  rfl

/-- The call's head weights. -/
theorem entry_heads (c : Dev nD) : V m c main_call0_v7 = heads (m ((c.tc : Thread nD τ).loc main_arg3)) (m ((c.tc : Thread nD τ).loc main_arg5)) := by
  entry_read
  simp only [hostOps0, List.flatten_cons, List.flatten_nil, List.append_nil]
  after_results
  rfl

/-- The call's head biases. -/
theorem entry_biases (c : Dev nD) : V m c main_call0_v10 = biases (m ((c.tc : Thread nD τ).loc main_arg4)) (m ((c.tc : Thread nD τ).loc main_arg6)) := by
  entry_read
  simp only [hostOps0, List.flatten_cons, List.flatten_nil, List.append_nil]
  after_results
  rfl

/-! ## These arrays at coordinates -/

/-- Row `256·j + k` of the stacked weights is place `j` of the window at channel `k`. -/
theorem stacked_apply (x : FVec Ideal S3x3x256x512 .f32) (dy dx : Fin 3) (k : Fin 256) (n : Fin 512) :
    stacked x (ix2 (⟨256 * (3 * dy.val + dx.val) + k.val, by omega⟩ : Fin 2304) n) = x (ix4 dy dx k n) := by
  unfold stacked
  pointwise

/-- The first six columns are the class head's. -/
theorem heads_cls (x : FVec Ideal S1x1x512x6 .f32) (y : FVec Ideal S1x1x512x12 .f32) (n : Fin 512) (k : Fin 6) :
    heads x y (ix2 n (⟨k.val, by omega⟩ : Fin 18)) = x (ix4 (0 : Fin 1) (0 : Fin 1) n k) := by
  unfold heads
  pointwise

/-- The other twelve are the box head's. -/
theorem heads_reg (x : FVec Ideal S1x1x512x6 .f32) (y : FVec Ideal S1x1x512x12 .f32) (n : Fin 512) (k : Fin 12) :
    heads x y (ix2 n (⟨6 + k.val, by omega⟩ : Fin 18)) = y (ix4 (0 : Fin 1) (0 : Fin 1) n k) := by
  unfold heads
  pointwise

/-- The first six biases are the class head's. -/
theorem biases_cls (x : FVec Ideal S6 .f32) (y : FVec Ideal S12 .f32) (k : Fin 6) :
    biases x y (ix2 (0 : Fin 1) (⟨k.val, by omega⟩ : Fin 18)) = x (ix1 k) := by
  unfold biases
  pointwise

/-- The other twelve are the box head's. -/
theorem biases_reg (x : FVec Ideal S6 .f32) (y : FVec Ideal S12 .f32) (k : Fin 12) :
    biases x y (ix2 (0 : Fin 1) (⟨6 + k.val, by omega⟩ : Fin 18)) = y (ix1 k) := by
  unfold biases
  pointwise

/-! ## The blocks the body reads -/

/-- The block of images at a point is its batch's. -/
theorem block_images (c : Dev nD) (t : Fin cfg0.N) (p q : Fin 66) (k : Fin 256) :
    iblk m c 0 t (ix4 (0 : Fin 1) p q k) = padded (m ((c.tc : Thread nD τ).loc main_arg0)) (ix4 (grid0.coords t 0 : Fin 2) p q k) := by
  rw [← entry_images]
  blk_simp [iblk]
  have e : ∀ t : Fin grid0.N, win0_0.index t 0 = (grid0.coords t 0).val ∧ win0_0.index t 1 = 0 ∧ win0_0.index t 2 = 0
      ∧ win0_0.index t 3 = 0 := by decide +kernel
  obtain ⟨e0, e1, e2, e3⟩ := e t
  refine congrArg _ (funext fun a => Fin.ext ?_)
  fin_cases a <;> blk_simp [e0, e1, e2, e3] <;> rfl

/-- The block of shared weights is the whole array. -/
theorem block_weights (c : Dev nD) (t : Fin cfg0.N) : iblk m c 1 t = stacked (m ((c.tc : Thread nD τ).loc main_arg1)) := by
  rw [← entry_weights]
  funext j
  blk_simp [iblk]
  have e : ∀ t : Fin grid0.N, win0_1.index t 0 = 0 ∧ win0_1.index t 1 = 0 := by decide +kernel
  obtain ⟨e0, e1⟩ := e t
  refine congrArg _ (funext fun a => Fin.ext ?_)
  fin_cases a <;> blk_simp [e0, e1] <;> rfl

/-- So is the block of the shared bias, -/
theorem block_bias (c : Dev nD) (t : Fin cfg0.N) : iblk m c 2 t = shapeCast S1x512 (m ((c.tc : Thread nD τ).loc main_arg2)) shapeCasts_S512_S1x512 := by
  rw [← entry_bias]
  funext j
  blk_simp [iblk]
  have e : ∀ t : Fin grid0.N, win0_2.index t 0 = 0 ∧ win0_2.index t 1 = 0 := by decide +kernel
  obtain ⟨e0, e1⟩ := e t
  refine congrArg _ (funext fun a => Fin.ext ?_)
  fin_cases a <;> blk_simp [e0, e1] <;> rfl

/-- the block of head weights, -/
theorem block_heads (c : Dev nD) (t : Fin cfg0.N) : iblk m c 3 t = heads (m ((c.tc : Thread nD τ).loc main_arg3)) (m ((c.tc : Thread nD τ).loc main_arg5)) := by
  rw [← entry_heads]
  funext j
  blk_simp [iblk]
  have e : ∀ t : Fin grid0.N, win0_3.index t 0 = 0 ∧ win0_3.index t 1 = 0 := by decide +kernel
  obtain ⟨e0, e1⟩ := e t
  refine congrArg _ (funext fun a => Fin.ext ?_)
  fin_cases a <;> blk_simp [e0, e1] <;> rfl

/-- and the block of head biases. -/
theorem block_biases (c : Dev nD) (t : Fin cfg0.N) : iblk m c 4 t = biases (m ((c.tc : Thread nD τ).loc main_arg4)) (m ((c.tc : Thread nD τ).loc main_arg6)) := by
  rw [← entry_biases]
  funext j
  blk_simp [iblk]
  have e : ∀ t : Fin grid0.N, win0_4.index t 0 = 0 ∧ win0_4.index t 1 = 0 := by decide +kernel
  obtain ⟨e0, e1⟩ := e t
  refine congrArg _ (funext fun a => Fin.ext ?_)
  fin_cases a <;> blk_simp [e0, e1] <;> rfl

end Cert.KernelIdeal.Result

end
-- ==== Proof.Spec.lean ====
module

public import Idealize.ShloMosaic.Lib.Pointwise
public import Idealize.ShloMosaic.PureOps.Ideal.Laws

@[expose] public section

set_option maxRecDepth 16384

noncomputable section

namespace Cert.Rpn

open Idealize.ShloMosaic

/-! ## The region proposal head on the extended reals, read at coordinates -/

/-- The padded images: batch, padded row, padded column, channel. -/
abbrev Images := (⟨4, ![2, 66, 66, 256]⟩ : Shape).Idx → EReal
/-- The 3×3 convolution's weights. -/
abbrev Weights := (⟨4, ![3, 3, 256, 512]⟩ : Shape).Idx → EReal
/-- The convolution's bias. -/
abbrev Bias := (⟨1, ![512]⟩ : Shape).Idx → EReal

variable (xp : Images) (W : Weights) (bs : Bias)

/-- The product at one place of the 3×3 window: the padded image at row `h + dy` and column `w + dx`, all channels,
    with the weights at `(dy, dx)` into channel `n`. -/
def tap (dy dx : Fin 3) (b : Fin 2) (h w : Fin 64) (n : Fin 512) : EReal :=
  ∑ c : Fin 256, xp (ix4 b (⟨dy.val + h.val, by omega⟩ : Fin 66) (⟨dx.val + w.val, by omega⟩ : Fin 66) c) * W (ix4 dy dx c n)

/-- The convolution at a pixel: the nine products in the window's order. -/
def conv (b : Fin 2) (h w : Fin 64) (n : Fin 512) : EReal :=
  tap xp W 0 0 b h w n + tap xp W 0 1 b h w n + tap xp W 0 2 b h w n + tap xp W 1 0 b h w n + tap xp W 1 1 b h w n
    + tap xp W 1 2 b h w n + tap xp W 2 0 b h w n + tap xp W 2 1 b h w n + tap xp W 2 2 b h w n

/-- The shared features at a pixel: the positive part of the convolution with its bias. -/
def shared (b : Fin 2) (h w : Fin 64) (n : Fin 512) : EReal := max (conv xp W b h w n + bs (ix1 n)) 0

/-- One output of a head at a pixel: the features against the column `v`, and the bias `β`. -/
def head (v : Fin 512 → EReal) (β : EReal) (b : Fin 2) (h w : Fin 64) : EReal :=
  ∑ n : Fin 512, shared xp W bs b h w n * v n + β

/-- The word of minus infinity. -/
abbrev lowest : EReal := Ideal.ofBits FTy.f32 4286578688#32

/-- The softmax of a pair: each entry less the greatest, exponentiated, over the sum of the two. -/
def softmax (y : Fin 2 → EReal) (e : Fin 2) : EReal :=
  Ideal.div (Ideal.exp (y e - max lowest (Finset.fold max lowest (fun x => y x) Finset.univ)))
    (∑ k : Fin 2, Ideal.exp (y k - max lowest (Finset.fold max lowest (fun x => y x) Finset.univ)))

end Cert.Rpn

end
-- ==== Proof.KernelValue.lean ====
module

public import proofs.«01_k».proof.Proof.Block
public import proofs.«01_k».proof.Proof.Payload
public import proofs.«01_k».proof.Proof.Entry
public import proofs.«01_k».proof.Proof.Spec
public import Idealize.ShloMosaic.Lib.Pipeline.ValueKit

@[expose] public section

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ)

/-! ## One block's values -/

/-- The rows loaded at shift `r` start at row `16·i + r` of the padded image, `i` the point's second coordinate. -/
theorem rows_start : ∀ (i : grid0.Coords) (r : Fin 3), k0_off1 i (BitVec.ofNat 32 r.val) 1 = 16 * (i 1).val + r.val := by
  decide +kernel

/-- A loaded row is a row of the padded image. -/
theorem rows_apply (i : grid0.Coords) (r : Fin 3) (x : Vec Ideal S1x66x66x256 .bf16) (p : Fin 16) (q : Fin 66) (k : Fin 256) :
    rows i r x (ix4 (0 : Fin 1) p q k) = x (ix4 (0 : Fin 1) (⟨16 * (i 1).val + r.val + p.val, by
      have := (i 1).isLt; change (i 1).val < 4 at this; omega⟩ : Fin 66) q k) := by
  unfold rows
  show x (Rect.emb _ _) = _
  refine congrArg x (funext fun a => Fin.ext ?_)
  have e := rows_start i r
  fin_cases a
  · rfl
  · show k0_off1 i (BitVec.ofNat 32 r.val) 1 + 1 * p.val = _
    rw [e, Nat.one_mul]
    rfl
  · show k0_off1 i (BitVec.ofNat 32 r.val) 2 + 1 * q.val = q.val
    rw [show k0_off1 i (BitVec.ofNat 32 r.val) 2 = 0 from rfl]; omega
  · show k0_off1 i (BitVec.ofNat 32 r.val) 3 + 1 * k.val = k.val
    rw [show k0_off1 i (BitVec.ofNat 32 r.val) 3 = 0 from rfl]; omega

/-- The image row of a block's pixel. -/
def rowOf (i : grid0.Coords) (r : Fin 1024) : Fin 64 :=
  ⟨16 * (i 1).val + r.val / 64, by have := (i 1).isLt; change (i 1).val < 4 at this; omega⟩

/-- The image column of a block's pixel. -/
def colOf (r : Fin 1024) : Fin 64 := ⟨r.val % 64, by omega⟩

section
variable (i : grid0.Coords) (x : Vec Ideal S1x66x66x256 .bf16) (xp : Rpn.Images) (W : Rpn.Weights) (bs : Rpn.Bias) (b : Fin 2)
  (hx : ∀ p q k, x (ix4 (0 : Fin 1) p q k) = xp (ix4 b p q k))
include hx

/-- One product of the block's convolution is the product at that place of the window. -/
theorem tap_eq (dy dx : Fin 3) (j : Fin 9) (hj : j.val = 3 * dy.val + dx.val) (r : Fin 1024) (n : Fin 512) :
    tap (rows i dy x) (stacked W) j dx r n = Rpn.tap xp W dy dx b (rowOf i r) (colOf r) n := by
  unfold tap Rpn.tap
  refine Finset.sum_congr rfl fun k _ => ?_
  rw [rows_apply, hx]
  refine congrArg₂ (· * ·) (congrArg xp ?_) ?_
  · refine congrArg (fun p => ix4 b p _ k) (Fin.ext ?_)
    show 16 * (i 1).val + dy.val + r.val / 64 = dy.val + (16 * (i 1).val + r.val / 64)
    omega
  · rw [← stacked_apply W dy dx k n]
    refine congrArg (fun p => stacked W (ix2 p n)) (Fin.ext ?_)
    show 256 * j.val + k.val = 256 * (3 * dy.val + dx.val) + k.val
    rw [hj]

/-- The block's convolution with its bias. -/
theorem convBlk_apply (r : Fin 1024) (n : Fin 512) :
    convBlk i x (stacked W) (shapeCast S1x512 (bs : FVec Ideal S512 .f32) shapeCasts_S512_S1x512) (ix2 r n)
      = Rpn.conv xp W b (rowOf i r) (colOf r) n + bs (ix1 n) := by
  unfold convBlk Rpn.conv
  rw [pay3_apply, tap_eq i x xp W b hx 0 0 0 rfl, tap_eq i x xp W b hx 0 1 1 rfl, tap_eq i x xp W b hx 0 2 2 rfl,
    tap_eq i x xp W b hx 1 0 3 rfl, tap_eq i x xp W b hx 1 1 4 rfl, tap_eq i x xp W b hx 1 2 5 rfl,
    tap_eq i x xp W b hx 2 0 6 rfl, tap_eq i x xp W b hx 2 1 7 rfl, tap_eq i x xp W b hx 2 2 8 rfl]
  have hb : shapeCast S1x512 (bs : FVec Ideal S512 .f32) shapeCasts_S512_S1x512 (ix2 (0 : Fin 1) n) = bs (ix1 n) := by pointwise
  rw [hb]

/-- A column of the block's two heads. -/
theorem pay4_eq (w : Vec Ideal S512x18 .bf16) (β : Vec Ideal S1x18 .f32) (r : Fin 1024) (k : Fin 18) :
    k0_pay4 (convBlk i x (stacked W) (shapeCast S1x512 (bs : FVec Ideal S512 .f32) shapeCasts_S512_S1x512)) zero w β (ix2 r k)
      = Rpn.head xp W bs (fun n => w (ix2 n k)) (β (ix2 (0 : Fin 1) k)) b (rowOf i r) (colOf r) := by
  rw [pay4_apply]
  unfold Rpn.head Rpn.shared
  refine congrArg (· + _) (Finset.sum_congr rfl fun n _ => ?_)
  rw [convBlk_apply i x xp W bs b hx, show zero = (0 : EReal) from Ideal.ofBits_zero .f32]

end

/-! ## The arrays after the run -/

/-- A class logit, from the arguments: of batch `b`, pixel `p` (row-major) and column `k` of the class head. -/
def logitAt (c : Dev nD) (b : Fin 2) (p : Fin 4096) (k : Fin 6) : EReal :=
  Rpn.head (padded (m ((c.tc : Thread nD τ).loc main_arg0))) (m ((c.tc : Thread nD τ).loc main_arg1)) (m ((c.tc : Thread nD τ).loc main_arg2))
    (fun n => m ((c.tc : Thread nD τ).loc main_arg3) (ix4 (0 : Fin 1) (0 : Fin 1) n k)) (m ((c.tc : Thread nD τ).loc main_arg4) (ix1 k))
    b ⟨p.val / 64, by omega⟩ ⟨p.val % 64, by omega⟩

/-- A box delta, from the arguments. -/
def deltaAt (c : Dev nD) (b : Fin 2) (p : Fin 4096) (k : Fin 12) : EReal :=
  Rpn.head (padded (m ((c.tc : Thread nD τ).loc main_arg0))) (m ((c.tc : Thread nD τ).loc main_arg1)) (m ((c.tc : Thread nD τ).loc main_arg2))
    (fun n => m ((c.tc : Thread nD τ).loc main_arg5) (ix4 (0 : Fin 1) (0 : Fin 1) n k)) (m ((c.tc : Thread nD τ).loc main_arg6) (ix1 k))
    b ⟨p.val / 64, by omega⟩ ⟨p.val % 64, by omega⟩

/-- The head of a block at a point, in the coordinates of the whole image. -/
theorem block_head (c : Dev nD) (t : Fin cfg0.N) (r : Fin 1024) (k : Fin 18) (v : Fin 512 → EReal) (β : EReal)
    (hv : ∀ n, heads (m ((c.tc : Thread nD τ).loc main_arg3)) (m ((c.tc : Thread nD τ).loc main_arg5)) (ix2 n k) = v n)
    (hβ : biases (m ((c.tc : Thread nD τ).loc main_arg4)) (m ((c.tc : Thread nD τ).loc main_arg6)) (ix2 (0 : Fin 1) k) = β)
    (b : Fin 2) (h w : Fin 64) (hb : b.val = (grid0.coords t 0).val) (hh : h.val = 16 * (grid0.coords t 1).val + r.val / 64)
    (hw : w.val = r.val % 64) :
    k0_pay4 (convBlk (grid0.coords t) (iblk m c 0 t) (iblk m c 1 t) (iblk m c 2 t)) zero (iblk m c 3 t) (iblk m c 4 t) (ix2 r k)
      = Rpn.head (padded (m ((c.tc : Thread nD τ).loc main_arg0))) (m ((c.tc : Thread nD τ).loc main_arg1)) (m ((c.tc : Thread nD τ).loc main_arg2))
          v β b h w := by
  rw [block_weights, block_bias, block_heads, block_biases]
  rw [pay4_eq (grid0.coords t) (iblk m c 0 t) _ _ _ (grid0.coords t 0) (block_images m c t)]
  rw [show (fun n => heads _ _ (ix2 n k)) = v from funext hv, hβ]
  rw [show (grid0.coords t 0 : Fin 2) = b from Fin.ext hb.symm, show rowOf (grid0.coords t) r = h from Fin.ext hh.symm,
    show colOf r = w from Fin.ext hw.symm]

/-- A block's row among its batch's pixels. -/
def pixelOf (i : grid0.Coords) (r : Fin 1024) : Fin 4096 :=
  ⟨1024 * (i 1).val + r.val, by have := (i 1).isLt; change (i 1).val < 4 at this; omega⟩

/-- Window 5's blocks in its array. -/
theorem emb_5 (t : Fin grid0.N) (z : Fin 1) (r : Fin 1024) (n : Fin 6) :
    ((View.whole main_call0_v11_0).slice (win0_5.rect t)).emb (ix3 z r n) = ix3 (grid0.coords t 0 : Fin 2) (pixelOf (grid0.coords t) r) n := by
  have e : ∀ t : Fin grid0.N, win0_5.index t 0 = (grid0.coords t 0).val ∧ win0_5.index t 1 = (grid0.coords t 1).val
      ∧ win0_5.index t 2 = 0 := by decide +kernel
  obtain ⟨e0, e1, e2⟩ := e t
  have hz := z.isLt
  refine funext fun a => Fin.ext ?_
  fin_cases a
  · show win0_5.index t 0 * 1 + 1 * z.val = (grid0.coords t 0).val
    rw [e0]; omega
  · show win0_5.index t 1 * 1024 + 1 * r.val = 1024 * (grid0.coords t 1).val + r.val
    rw [e1]; omega
  · show win0_5.index t 2 * 6 + 1 * n.val = n.val
    rw [e2]; omega

/-- Window 6's blocks in its array. -/
theorem emb_6 (t : Fin grid0.N) (z : Fin 1) (r : Fin 1024) (n : Fin 6) :
    ((View.whole main_call0_v11_1).slice (win0_6.rect t)).emb (ix3 z r n) = ix3 (grid0.coords t 0 : Fin 2) (pixelOf (grid0.coords t) r) n := by
  have e : ∀ t : Fin grid0.N, win0_6.index t 0 = (grid0.coords t 0).val ∧ win0_6.index t 1 = (grid0.coords t 1).val
      ∧ win0_6.index t 2 = 0 := by decide +kernel
  obtain ⟨e0, e1, e2⟩ := e t
  have hz := z.isLt
  refine funext fun a => Fin.ext ?_
  fin_cases a
  · show win0_6.index t 0 * 1 + 1 * z.val = (grid0.coords t 0).val
    rw [e0]; omega
  · show win0_6.index t 1 * 1024 + 1 * r.val = 1024 * (grid0.coords t 1).val + r.val
    rw [e1]; omega
  · show win0_6.index t 2 * 6 + 1 * n.val = n.val
    rw [e2]; omega

/-- Window 7's blocks in its array. -/
theorem emb_7 (t : Fin grid0.N) (z : Fin 1) (r : Fin 1024) (n : Fin 12) :
    ((View.whole main_call0_v11_2).slice (win0_7.rect t)).emb (ix3 z r n) = ix3 (grid0.coords t 0 : Fin 2) (pixelOf (grid0.coords t) r) n := by
  have e : ∀ t : Fin grid0.N, win0_7.index t 0 = (grid0.coords t 0).val ∧ win0_7.index t 1 = (grid0.coords t 1).val
      ∧ win0_7.index t 2 = 0 := by decide +kernel
  obtain ⟨e0, e1, e2⟩ := e t
  have hz := z.isLt
  refine funext fun a => Fin.ext ?_
  fin_cases a
  · show win0_7.index t 0 * 1 + 1 * z.val = (grid0.coords t 0).val
    rw [e0]; omega
  · show win0_7.index t 1 * 1024 + 1 * r.val = 1024 * (grid0.coords t 1).val + r.val
    rw [e1]; omega
  · show win0_7.index t 2 * 12 + 1 * n.val = n.val
    rw [e2]; omega

/-- A class column of the head of a block. -/
theorem block_logit (c : Dev nD) (t : Fin cfg0.N) (r : Fin 1024) (n : Fin 6) :
    k0_pay4 (convBlk (grid0.coords t) (iblk m c 0 t) (iblk m c 1 t) (iblk m c 2 t)) zero (iblk m c 3 t) (iblk m c 4 t)
        (ix2 r (⟨n.val, by omega⟩ : Fin 18)) = logitAt m c (grid0.coords t 0) (pixelOf (grid0.coords t) r) n :=
  block_head m c t r _ _ _ (fun k => heads_cls _ _ k n) (biases_cls _ _ n) _ _ _ rfl
    (by show (1024 * (grid0.coords t 1).val + r.val) / 64 = _; omega) (by show (1024 * (grid0.coords t 1).val + r.val) % 64 = _; omega)

/-- A box column of the head of a block. -/
theorem block_delta (c : Dev nD) (t : Fin cfg0.N) (r : Fin 1024) (n : Fin 12) :
    k0_pay4 (convBlk (grid0.coords t) (iblk m c 0 t) (iblk m c 1 t) (iblk m c 2 t)) zero (iblk m c 3 t) (iblk m c 4 t)
        (ix2 r (⟨6 + n.val, by omega⟩ : Fin 18)) = deltaAt m c (grid0.coords t 0) (pixelOf (grid0.coords t) r) n :=
  block_head m c t r _ _ _ (fun k => heads_reg _ _ k n) (biases_reg _ _ n) _ _ _ rfl
    (by show (1024 * (grid0.coords t 1).val + r.val) / 64 = _; omega) (by show (1024 * (grid0.coords t 1).val + r.val) % 64 = _; omega)

/-- The array of logits after the run. -/
theorem final_5 (c : Dev nD) : (dats m 0 c).arrAt 5 cfg0.N = fun i : S2x4096x6.Idx => logitAt m c (i 0) (i 1) (i 2) := by
  refine (dats m 0 c).arrAt_eq_of_covers 5 _ (by decide +kernel) fun t hf y => ?_
  blk_simp
  rw [after0_5]
  unfold outsAt0
  dsimp only
  rw [out_5]
  clear hf
  revert y
  change ∀ y : S1x1024x6.Idx, _
  intro y
  idx_vars y
  rw [emb_5]
  obtain rfl : y0 = 0 := Subsingleton.elim _ _
  exact (pay8_apply _ _ _ _ y1 y2).trans (block_logit m c t y1 y2)

/-- The array of probabilities after the run. -/
theorem final_6 (c : Dev nD) : (dats m 0 c).arrAt 6 cfg0.N = fun i : S2x4096x6.Idx => Ideal.logistic (logitAt m c (i 0) (i 1) (i 2) - logitAt m c (i 0) (i 1) (mate (i 2))) := by
  refine (dats m 0 c).arrAt_eq_of_covers 6 _ (by decide +kernel) fun t hf y => ?_
  blk_simp
  rw [after0_6]
  unfold outsAt0
  dsimp only
  rw [out_6]
  clear hf
  revert y
  change ∀ y : S1x1024x6.Idx, _
  intro y
  idx_vars y
  rw [emb_6]
  obtain rfl : y0 = 0 := Subsingleton.elim _ _
  refine (pay1_apply _ _ _ _ y1 y2).trans ?_
  rw [block_logit m c t y1 y2, block_logit m c t y1 (mate y2)]
  rfl

/-- The array of deltas after the run. -/
theorem final_7 (c : Dev nD) : (dats m 0 c).arrAt 7 cfg0.N = fun i : S2x4096x12.Idx => deltaAt m c (i 0) (i 1) (i 2) := by
  refine (dats m 0 c).arrAt_eq_of_covers 7 _ (by decide +kernel) fun t hf y => ?_
  blk_simp
  rw [after0_7]
  unfold outsAt0
  dsimp only
  rw [out_7]
  clear hf
  revert y
  change ∀ y : S1x1024x12.Idx, _
  intro y
  idx_vars y
  rw [emb_7]
  obtain rfl : y0 = 0 := Subsingleton.elim _ _
  exact (pay2_apply _ _ _ _ y1 y2).trans (block_delta m c t y1 y2)

end Cert.KernelIdeal.Result

end
-- ==== Proof.RefValue.lean ====
module

public import proofs.«01_k».proof.Proof.Gen.ReferenceIdeal.Read
public import proofs.«01_k».proof.Proof.Spec

@[expose] public section

set_option maxRecDepth 16384

noncomputable section

namespace Cert.ReferenceIdeal.Result

open Cert.ReferenceIdeal Cert.ReferenceIdeal.Gen Cert.ReferenceIdeal.Read Idealize.ShloMosaic

variable (x0 : (⟨S2x64x64x256, .f32⟩ : BufTy).Contents (Elt Ideal)) (x1 : (⟨S3x3x256x512, .f32⟩ : BufTy).Contents (Elt Ideal))
  (x2 : (⟨S512, .f32⟩ : BufTy).Contents (Elt Ideal)) (x3 : (⟨S1x1x512x6, .f32⟩ : BufTy).Contents (Elt Ideal))
  (x4 : (⟨S6, .f32⟩ : BufTy).Contents (Elt Ideal)) (x5 : (⟨S1x1x512x12, .f32⟩ : BufTy).Contents (Elt Ideal))
  (x6 : (⟨S12, .f32⟩ : BufTy).Contents (Elt Ideal))

/-! ## The reference's results read at coordinates -/

/-- The product at the window's place (0, 0). -/
theorem dot_00 (b : Fin 2) (h w : Fin 64) (n : Fin 512) :
    val_main_v5 (F := Ideal) x0 x1 (ix4 b h w n) = Rpn.tap (val_main_v0 (F := Ideal) x0) x1 0 0 b h w n := by
  unfold val_main_v5 val_main_v2 Rpn.tap
  generalize val_main_v0 (F := Ideal) x0 = X
  pointwise [val_main_v4, val_main_v3]

/-- The product at the window's place (0, 1). -/
theorem dot_01 (b : Fin 2) (h w : Fin 64) (n : Fin 512) :
    val_main_v10 (F := Ideal) x0 x1 (ix4 b h w n) = Rpn.tap (val_main_v0 (F := Ideal) x0) x1 0 1 b h w n := by
  unfold val_main_v10 val_main_v7 Rpn.tap
  generalize val_main_v0 (F := Ideal) x0 = X
  pointwise [val_main_v9, val_main_v8]

/-- The product at the window's place (0, 2). -/
theorem dot_02 (b : Fin 2) (h w : Fin 64) (n : Fin 512) :
    val_main_v15 (F := Ideal) x0 x1 (ix4 b h w n) = Rpn.tap (val_main_v0 (F := Ideal) x0) x1 0 2 b h w n := by
  unfold val_main_v15 val_main_v12 Rpn.tap
  generalize val_main_v0 (F := Ideal) x0 = X
  pointwise [val_main_v14, val_main_v13]

/-- The product at the window's place (1, 0). -/
theorem dot_10 (b : Fin 2) (h w : Fin 64) (n : Fin 512) :
    val_main_v20 (F := Ideal) x0 x1 (ix4 b h w n) = Rpn.tap (val_main_v0 (F := Ideal) x0) x1 1 0 b h w n := by
  unfold val_main_v20 val_main_v17 Rpn.tap
  generalize val_main_v0 (F := Ideal) x0 = X
  pointwise [val_main_v19, val_main_v18]

/-- The product at the window's place (1, 1). -/
theorem dot_11 (b : Fin 2) (h w : Fin 64) (n : Fin 512) :
    val_main_v25 (F := Ideal) x0 x1 (ix4 b h w n) = Rpn.tap (val_main_v0 (F := Ideal) x0) x1 1 1 b h w n := by
  unfold val_main_v25 val_main_v22 Rpn.tap
  generalize val_main_v0 (F := Ideal) x0 = X
  pointwise [val_main_v24, val_main_v23]

/-- The product at the window's place (1, 2). -/
theorem dot_12 (b : Fin 2) (h w : Fin 64) (n : Fin 512) :
    val_main_v30 (F := Ideal) x0 x1 (ix4 b h w n) = Rpn.tap (val_main_v0 (F := Ideal) x0) x1 1 2 b h w n := by
  unfold val_main_v30 val_main_v27 Rpn.tap
  generalize val_main_v0 (F := Ideal) x0 = X
  pointwise [val_main_v29, val_main_v28]

/-- The product at the window's place (2, 0). -/
theorem dot_20 (b : Fin 2) (h w : Fin 64) (n : Fin 512) :
    val_main_v35 (F := Ideal) x0 x1 (ix4 b h w n) = Rpn.tap (val_main_v0 (F := Ideal) x0) x1 2 0 b h w n := by
  unfold val_main_v35 val_main_v32 Rpn.tap
  generalize val_main_v0 (F := Ideal) x0 = X
  pointwise [val_main_v34, val_main_v33]

/-- The product at the window's place (2, 1). -/
theorem dot_21 (b : Fin 2) (h w : Fin 64) (n : Fin 512) :
    val_main_v40 (F := Ideal) x0 x1 (ix4 b h w n) = Rpn.tap (val_main_v0 (F := Ideal) x0) x1 2 1 b h w n := by
  unfold val_main_v40 val_main_v37 Rpn.tap
  generalize val_main_v0 (F := Ideal) x0 = X
  pointwise [val_main_v39, val_main_v38]

/-- The product at the window's place (2, 2). -/
theorem dot_22 (b : Fin 2) (h w : Fin 64) (n : Fin 512) :
    val_main_v45 (F := Ideal) x0 x1 (ix4 b h w n) = Rpn.tap (val_main_v0 (F := Ideal) x0) x1 2 2 b h w n := by
  unfold val_main_v45 val_main_v42 Rpn.tap
  generalize val_main_v0 (F := Ideal) x0 = X
  pointwise [val_main_v44, val_main_v43]

/-- The shared features. -/
theorem features (b : Fin 2) (h w : Fin 64) (n : Fin 512) :
    val_main_v50 (F := Ideal) x0 x1 x2 (ix4 b h w n) = Rpn.shared (val_main_v0 (F := Ideal) x0) x1 x2 b h w n := by
  pointwise [val_main_v50, val_main_v49, val_main_v48, val_main_v47, val_main_v46, val_main_v41, val_main_v36, val_main_call1_v0, val_main_call1_cst, val_main_v31, val_main_v26, val_main_v21, val_main_v16, val_main_v11, val_main_v6, val_main_v1, val_main_cst]
  rw [dot_00, dot_01, dot_02, dot_10, dot_11, dot_12, dot_20, dot_21, dot_22]
  rfl

/-- The first result: entry `e` of anchor `q` is output `2 (q % 3) + e` of the class head at the anchor's pixel. -/
theorem logits (b : Fin 2) (q : Fin 12288) (e : Fin 2) :
    val_main_v56 (F := Ideal) x0 x1 x2 x3 x4 (ix3 b q e)
      = Rpn.head (val_main_v0 (F := Ideal) x0) x1 x2 (fun n => x3 (ix4 0 0 n (⟨q.val % 3 * 2 + e.val, by omega⟩ : Fin 6)))
          (x4 (ix1 (⟨q.val % 3 * 2 + e.val, by omega⟩ : Fin 6))) b ⟨q.val / 192, by omega⟩ ⟨q.val / 3 % 64, by omega⟩ := by
  unfold val_main_v56
  pointwise [val_main_v55, val_main_v54, val_main_v53, val_main_v52, val_main_v51]
  simp only [features]
  rfl

/-- The third result: entry `e` of anchor `q` is output `4 (q % 3) + e` of the box head at the anchor's pixel. -/
theorem deltas (b : Fin 2) (q : Fin 12288) (e : Fin 4) :
    val_main_v73 (F := Ideal) x0 x1 x2 x5 x6 (ix3 b q e)
      = Rpn.head (val_main_v0 (F := Ideal) x0) x1 x2 (fun n => x5 (ix4 0 0 n (⟨q.val % 3 * 4 + e.val, by omega⟩ : Fin 12)))
          (x6 (ix1 (⟨q.val % 3 * 4 + e.val, by omega⟩ : Fin 12))) b ⟨q.val / 192, by omega⟩ ⟨q.val / 3 % 64, by omega⟩ := by
  unfold val_main_v73
  pointwise [val_main_v72, val_main_v71, val_main_v70, val_main_v69, val_main_v68]
  simp only [features]
  rfl

/-- The second result: the softmax of the anchor's pair of logits. -/
theorem probs (b : Fin 2) (q : Fin 12288) (e : Fin 2) :
    val_main_v67 (F := Ideal) x0 x1 x2 x3 x4 (ix3 b q e)
      = Rpn.softmax (fun k => val_main_v56 (F := Ideal) x0 x1 x2 x3 x4 (ix3 b q k)) e := by
  unfold val_main_v67 val_main_v66 val_main_v65 val_main_v64 val_main_v63 val_main_v62 val_main_v61 val_main_v60 val_main_v59 val_main_v58 val_main_v57
  generalize val_main_v56 (F := Ideal) x0 x1 x2 x3 x4 = Y
  pointwise [val_main_cst_0, val_main_cst_1, val_main_cst_2]
  rfl

end Cert.ReferenceIdeal.Result

end
-- ==== Proof.Finite.lean ====
module

public import proofs.«01_k».proof.Proof.Spec
public import Mathlib.Analysis.SpecialFunctions.Exp

@[expose] public section

set_option maxRecDepth 16384

noncomputable section

namespace Cert.Rpn

open Idealize.ShloMosaic

/-! ## Extended reals that are reals -/

/-- `x` is neither of the two infinities. -/
def IsReal (x : EReal) : Prop := ∃ r : ℝ, x = (r : EReal)

/-- Zero is a real. -/
theorem IsReal.zero : IsReal 0 := ⟨0, rfl⟩

/-- The sum of two reals is a real, -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- so is the product, -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- so is the greater of the two, -/
theorem IsReal.greater {x y : EReal} (hx : IsReal x) (hy : IsReal y) : IsReal (max x y) := by
  rcases max_choice x y with h | h <;> rw [h] <;> assumption

/-- and so is a finite sum of reals. -/
theorem IsReal.sum {ι : Type} (s : Finset ι) (f : ι → EReal) (hf : ∀ i, IsReal (f i)) : IsReal (∑ i ∈ s, f i) := by
  classical
  induction s using Finset.induction_on with
  | empty => exact ⟨0, by simp⟩
  | insert i s hi ih => rw [Finset.sum_insert hi]; exact (hf i).add ih

/-- An extended real whose absolute value is below infinity is a real. -/
theorem IsReal.of_abs_lt {x : EReal} (h : (max x (-x) : EReal) < ⊤) : IsReal x := by
  induction x using EReal.rec with
  | bot => simp at h
  | top => simp at h
  | coe r => exact ⟨r, rfl⟩

/-- With real images, weights and biases, every output of a head is real. -/
theorem head_real {xp : Images} {W : Weights} {bs : Bias} {v : Fin 512 → EReal} {β : EReal} (hx : ∀ i, IsReal (xp i)) (hW : ∀ i, IsReal (W i))
    (hb : ∀ i, IsReal (bs i)) (hv : ∀ n, IsReal (v n)) (hβ : IsReal β) (b : Fin 2) (h w : Fin 64) : IsReal (head xp W bs v β b h w) := by
  have ht : ∀ dy dx n, IsReal (tap xp W dy dx b h w n) := fun dy dx n => IsReal.sum _ _ fun k => (hx _).mul (hW _)
  refine IsReal.add (IsReal.sum _ _ fun n => IsReal.mul (IsReal.greater (IsReal.add ?_ (hb _)) IsReal.zero) (hv n)) hβ
  exact ((((((((ht _ _ _).add (ht _ _ _)).add (ht _ _ _)).add (ht _ _ _)).add (ht _ _ _)).add (ht _ _ _)).add (ht _ _ _)).add (ht _ _ _)).add (ht _ _ _)

/-! ## The softmax of a pair -/

/-- The word of minus infinity is minus infinity. -/
theorem lowest_eq : lowest = ⊥ := by
  simp [lowest, Ideal.ofBits, Ideal.ieee]

/-- The other entry of a pair. -/
def other (e : Fin 2) : Fin 2 := ⟨1 - e.val, by omega⟩

/-- The greatest of a pair, as the softmax takes it. -/
theorem greatest_eq (y : Fin 2 → EReal) : max lowest (Finset.fold max lowest (fun x => y x) Finset.univ) = max (y 0) (y 1) := by
  rw [lowest_eq, show (Finset.univ : Finset (Fin 2)) = {0, 1} from rfl, Finset.fold_insert (by decide), Finset.fold_singleton]
  simp

/-- The logistic of a real difference is a quotient of exponentials, both shifted by any real. -/
theorem logistic_sub (a b M : ℝ) :
    Ideal.div (Ideal.exp ((a : EReal) - M)) (Ideal.exp ((a : EReal) - M) + Ideal.exp ((b : EReal) - M)) = Ideal.logistic ((a : EReal) - b) := by
  rw [← EReal.coe_sub, ← EReal.coe_sub, ← EReal.coe_sub, Ideal.exp_coe, Ideal.exp_coe, Ideal.logistic_coe, ← EReal.coe_add,
    Ideal.div_coe (by positivity), ← EReal.coe_mul]
  refine congrArg _ ?_
  rw [show b - M = (a - M) + -(a - b) by ring, Real.exp_add]
  have := Real.exp_pos (a - M)
  have := Real.exp_pos (-(a - b))
  field_simp

/-- The softmax of a pair of reals is the logistic of the difference. -/
theorem softmax_pair (y : Fin 2 → EReal) (h : ∀ k, IsReal (y k)) (e : Fin 2) : softmax y e = Ideal.logistic (y e - y (other e)) := by
  unfold softmax
  rw [greatest_eq, Fin.sum_univ_two]
  obtain ⟨a, ha⟩ := h 0
  obtain ⟨b, hb⟩ := h 1
  obtain ⟨M, hM⟩ := IsReal.greater (h 0) (h 1)
  rw [hM]
  fin_cases e
  · show Ideal.div (Ideal.exp (y 0 - M)) _ = Ideal.logistic (y 0 - y 1)
    rw [ha, hb]
    exact logistic_sub a b M
  · show Ideal.div (Ideal.exp (y 1 - M)) _ = Ideal.logistic (y 1 - y 0)
    rw [ha, hb, add_comm]
    exact logistic_sub b a M

/-- A pair with a logit of plus infinity: the softmax is 0 / 0, the logistic of the difference is one. -/
theorem softmax_infinite : softmax ![⊤, 0] 0 = ⊥ ∧ Ideal.logistic ((⊤ : EReal) - 0) = 1 := by
  refine ⟨?_, by simp⟩
  unfold softmax
  rw [greatest_eq, Fin.sum_univ_two]
  simp [Ideal.div]

end Cert.Rpn

end
-- ==== Proof.Equal.lean ====
module

public import proofs.«01_k».proof.Proof.KernelValue
public import proofs.«01_k».proof.Proof.RefValue
public import proofs.«01_k».proof.Proof.Finite
public import proofs.«01_k».proof.Proof.Gen.Pre_finite
public import Idealize.ShloMosaic.Lib.ReduceAll
public import Idealize.ShloMosaic.Lib.Affine

@[expose] public section

set_option maxRecDepth 16384

noncomputable section

namespace Cert.KernelIdeal.Result

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ)

/-! ## The kernel's results are the reference's -/

/-- Six columns to a pixel, regrouped as three pairs. -/
theorem pairs_apply (g : S2x4096x6.Idx → EReal) (b : Fin 2) (q : Fin 12288) (e : Fin 2) :
    shapeCast S2x12288x2 g shapeCasts_S2x4096x6_S2x12288x2 (ix3 b q e)
      = g (ix3 b (⟨q.val / 3, by omega⟩ : Fin 4096) (⟨q.val % 3 * 2 + e.val, by omega⟩ : Fin 6)) := by
  pointwise

/-- Twelve columns to a pixel, regrouped as three boxes. -/
theorem boxes_apply (g : S2x4096x12.Idx → EReal) (b : Fin 2) (q : Fin 12288) (e : Fin 4) :
    shapeCast S2x12288x4 g shapeCasts_S2x4096x12_S2x12288x4 (ix3 b q e)
      = g (ix3 b (⟨q.val / 3, by omega⟩ : Fin 4096) (⟨q.val % 3 * 4 + e.val, by omega⟩ : Fin 12)) := by
  pointwise

/-- A logit of the kernel's first result. -/
theorem kernel_logits (c : Dev nD) (b : Fin 2) (q : Fin 12288) (e : Fin 2) :
    shapeCast S2x12288x2 ((dats m 0 c).arrAt 5 cfg0.N) shapeCasts_S2x4096x6_S2x12288x2 (ix3 b q e)
      = logitAt m c b (⟨q.val / 3, by omega⟩ : Fin 4096) (⟨q.val % 3 * 2 + e.val, by omega⟩ : Fin 6) := by
  rw [final_5]
  exact pairs_apply _ b q e

/-- The mate of a column is the column of the pair's other entry. -/
theorem mate_eq (q : Fin 12288) (e : Fin 2) :
    mate (⟨q.val % 3 * 2 + e.val, by omega⟩ : Fin 6) = ⟨q.val % 3 * 2 + (Rpn.other e).val, by have := (Rpn.other e).isLt; omega⟩ :=
  Fin.ext (by
    show 2 * ((q.val % 3 * 2 + e.val) / 2) + (1 - (q.val % 3 * 2 + e.val) % 2) = q.val % 3 * 2 + (1 - e.val)
    omega)

/-- A probability of its second result. -/
theorem kernel_probs (c : Dev nD) (b : Fin 2) (q : Fin 12288) (e : Fin 2) :
    shapeCast S2x12288x2 ((dats m 0 c).arrAt 6 cfg0.N) shapeCasts_S2x4096x6_S2x12288x2 (ix3 b q e)
      = Ideal.logistic (logitAt m c b (⟨q.val / 3, by omega⟩ : Fin 4096) (⟨q.val % 3 * 2 + e.val, by omega⟩ : Fin 6)
          - logitAt m c b (⟨q.val / 3, by omega⟩ : Fin 4096) (⟨q.val % 3 * 2 + (Rpn.other e).val, by have := (Rpn.other e).isLt; omega⟩ : Fin 6)) := by
  rw [← mate_eq, final_6]
  exact pairs_apply _ b q e

/-- A delta of its third result. -/
theorem kernel_deltas (c : Dev nD) (b : Fin 2) (q : Fin 12288) (e : Fin 4) :
    shapeCast S2x12288x4 ((dats m 0 c).arrAt 7 cfg0.N) shapeCasts_S2x4096x12_S2x12288x4 (ix3 b q e)
      = deltaAt m c b (⟨q.val / 3, by omega⟩ : Fin 4096) (⟨q.val % 3 * 4 + e.val, by omega⟩ : Fin 12) := by
  rw [final_7]
  exact boxes_apply _ b q e

/-- The kernel's logit is the reference's. -/
theorem logit_eq (c : Dev nD) (b : Fin 2) (q : Fin 12288) (e : Fin 2) :
    logitAt m c b (⟨q.val / 3, by omega⟩ : Fin 4096) (⟨q.val % 3 * 2 + e.val, by omega⟩ : Fin 6)
      = val_main_v56 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (ix3 b q e) := by
  rw [Cert.ReferenceIdeal.Result.logits]
  unfold logitAt
  rw [show (⟨q.val / 3 / 64, by omega⟩ : Fin 64) = ⟨q.val / 192, by omega⟩ from Fin.ext (by show q.val / 3 / 64 = q.val / 192; omega)]
  rfl

/-- The first results agree. -/
theorem logits_eq (c : Dev nD) :
    shapeCast S2x12288x2 ((dats m 0 c).arrAt 5 cfg0.N) shapeCasts_S2x4096x6_S2x12288x2
      = val_main_v56 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext j
  idx_vars j
  exact (kernel_logits m c _ _ _).trans (logit_eq m c _ _ _)

/-- The kernel's delta is the reference's. -/
theorem delta_eq (c : Dev nD) (b : Fin 2) (q : Fin 12288) (e : Fin 4) :
    deltaAt m c b (⟨q.val / 3, by omega⟩ : Fin 4096) (⟨q.val % 3 * 4 + e.val, by omega⟩ : Fin 12)
      = val_main_v73 (F := Ideal) (m ((c.tc : Thread nD τ).loc main_arg0)) (m ((c.tc : Thread nD τ).loc main_arg1))
          (m ((c.tc : Thread nD τ).loc main_arg2)) (m ((c.tc : Thread nD τ).loc main_arg5)) (m ((c.tc : Thread nD τ).loc main_arg6)) (ix3 b q e) := by
  rw [Cert.ReferenceIdeal.Result.deltas]
  unfold deltaAt
  rw [show (⟨q.val / 3 / 64, by omega⟩ : Fin 64) = ⟨q.val / 192, by omega⟩ from Fin.ext (by show q.val / 3 / 64 = q.val / 192; omega)]
  rfl

/-- The third results agree. -/
theorem deltas_eq (c : Dev nD) :
    shapeCast S2x12288x4 ((dats m 0 c).arrAt 7 cfg0.N) shapeCasts_S2x4096x12_S2x12288x4
      = val_main_v73 (F := Ideal) (m ((c.tc : Thread nD τ).loc main_arg0)) (m ((c.tc : Thread nD τ).loc main_arg1))
          (m ((c.tc : Thread nD τ).loc main_arg2)) (m ((c.tc : Thread nD τ).loc main_arg5)) (m ((c.tc : Thread nD τ).loc main_arg6)) := by
  funext j
  idx_vars j
  exact (kernel_deltas m c _ _ _).trans (delta_eq m c _ _ _)

/-! ## The probabilities, under the precondition -/

/-- The word of plus infinity is plus infinity. -/
theorem inf_eq : Ideal.ofBits FTy.f32 0x7F800000#32 = ⊤ := by
  simp [Ideal.ofBits, Ideal.ieee]

/-- A conjunction, over a whole array, of "the absolute value is below infinity" says that every entry is a real. -/
theorem all_real {s t u : Shape} {axes : List (Fin s.rank)} [Subsingleton t.Idx] (x y : FVec Ideal s .f32) (hy : ∀ i, y i = (⊤ : EReal))
    (init : u.Idx → BitVec 1) (hr : s.ReducesTo axes t) (hu : 0 < u.numel) (j : t.Idx)
    (e : Host.reduce IntOp.andi (cmpf .olt (Host.absf x) y) init hr hu j = 1#1) (i : s.Idx) : Rpn.IsReal (x i) := by
  have h := Host.reduce_andi_all _ _ _ _ j e i
  have h' : Ideal.cmp .olt (max (x i) (-x i)) (y i) = 1#1 := h
  rw [hy] at h'
  refine Rpn.IsReal.of_abs_lt ?_
  by_contra hn
  simp [Ideal.cmp, hn] at h'

/-- What `finite` says of the arguments that the logits depend on. -/
theorem finite_args (x0 : FVec Ideal S2x64x64x256 .f32) (x1 : FVec Ideal S3x3x256x512 .f32) (x2 : FVec Ideal S512 .f32)
    (x3 : FVec Ideal S1x1x512x6 .f32) (x4 : FVec Ideal S6 .f32) (x5 : FVec Ideal S1x1x512x12 .f32) (x6 : FVec Ideal S12 .f32)
    (h : Cert.Pre_finite.fn (F := Ideal) x0 x1 x2 x3 x4 x5 x6 = fun _ => 1#1) :
    (∀ i, Rpn.IsReal (x0 i)) ∧ (∀ i, Rpn.IsReal (x1 i)) ∧ (∀ i, Rpn.IsReal (x2 i)) ∧ (∀ i, Rpn.IsReal (x3 i)) ∧ (∀ i, Rpn.IsReal (x4 i)) := by
  have h := congrFun h ix0
  unfold Cert.Pre_finite.fn Cert.Pre_finite.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real _ _ (fun _ => inf_eq) _ _ _ _ h0, all_real _ _ (fun _ => inf_eq) _ _ _ _ h1, all_real _ _ (fun _ => inf_eq) _ _ _ _ h2,
    all_real _ _ (fun _ => inf_eq) _ _ _ _ h3, all_real _ _ (fun _ => inf_eq) _ _ _ _ h4⟩

/-- Padding real images leaves them real. -/
theorem padded_real (x : FVec Ideal S2x64x64x256 .f32) (hx : ∀ i, Rpn.IsReal (x i)) (j : S2x66x66x256.Idx) : Rpn.IsReal (padded x j) := by
  unfold padded pad
  split
  · exact hx _
  · exact ⟨_, rfl⟩

/-- With real arguments every logit is real. -/
theorem logit_real (c : Dev nD) (h : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) (b : Fin 2) (p : Fin 4096) (k : Fin 6) :
    Rpn.IsReal (logitAt m c b p k) := by
  obtain ⟨h0, h1, h2, h3, h4⟩ := finite_args _ _ _ _ _ _ _ h
  exact Rpn.head_real (padded_real _ h0) h1 h2 (fun n => h3 _) (h4 _) _ _ _

/-- The second results agree when the arguments that the logits depend on are finite. -/
theorem probs_eq (c : Dev nD) (h : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    shapeCast S2x12288x2 ((dats m 0 c).arrAt 6 cfg0.N) shapeCasts_S2x4096x6_S2x12288x2
      = val_main_v67 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext j
  idx_vars j
  refine (kernel_probs m c j0 j1 j2).trans ?_
  rw [Cert.ReferenceIdeal.Result.probs, Rpn.softmax_pair _ (fun k => (logit_eq m c j0 j1 k) ▸ logit_real m c h _ _ _), logit_eq, logit_eq]

end Cert.KernelIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.On_logits_and_deltas
public import proofs.«01_k».proof.Proof.Run
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The logits, as the reference computes them from the kernel's arguments. -/
abbrev logits (m : (ℓ : Loc Cert.KernelIdeal.nD Cert.KernelIdeal.τ Cert.KernelIdeal.sig) → Buf (Elt Ideal) ℓ) (c : Dev Cert.KernelIdeal.nD) :=
  Cert.ReferenceIdeal.Read.val_main_v56 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))

/-- The probabilities. -/
abbrev probs (m : (ℓ : Loc Cert.KernelIdeal.nD Cert.KernelIdeal.τ Cert.KernelIdeal.sig) → Buf (Elt Ideal) ℓ) (c : Dev Cert.KernelIdeal.nD) :=
  Cert.ReferenceIdeal.Read.val_main_v67 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))

/-- The deltas. -/
abbrev deltas (m : (ℓ : Loc Cert.KernelIdeal.nD Cert.KernelIdeal.τ Cert.KernelIdeal.sig) → Buf (Elt Ideal) ℓ) (c : Dev Cert.KernelIdeal.nD) :=
  Cert.ReferenceIdeal.Read.val_main_v73 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

/-- On finite arguments the three results agree. -/
theorem equal_finite : Cert.algebraic_KernelIdeal_ReferenceIdeal_pre_finite := by
  intro m g m' g' hpre hagree
  refine ⟨logits m, probs m, deltas m, ?_, ?_⟩
  · refine (θ_run _ _ _).mono (fun r h c => ?_) (Cert.KernelIdeal.Result.run m g)
    obtain ⟨⟨h0, h1, h2⟩, hargs⟩ := h c
    exact ⟨h0.trans (Cert.KernelIdeal.Result.logits_eq m c), h1.trans (Cert.KernelIdeal.Result.probs_eq m c (hpre c)),
      h2.trans (Cert.KernelIdeal.Result.deltas_eq m c), hargs⟩
  · refine (θ_run _ _ _).mono (fun r h c => ?_) (Cert.ReferenceIdeal.Value.run (F := Ideal) m' g')
    obtain ⟨h0, h1, h2, hargs⟩ := h c
    obtain ⟨a0, a1, a2, a3, a4, a5, a6⟩ := hagree c
    refine ⟨(h0.trans (Cert.ReferenceIdeal.Read.val_main_v56_eq m' c)).trans ?_, (h1.trans (Cert.ReferenceIdeal.Read.val_main_v67_eq m' c)).trans ?_,
      (h2.trans (Cert.ReferenceIdeal.Read.val_main_v73_eq m' c)).trans ?_, hargs⟩
    · rw [a0, a1, a2, a3, a4]
    · rw [a0, a1, a2, a3, a4]
    · rw [a0, a1, a2, a5, a6]

/-- The logits and the deltas agree on all arguments. -/
theorem equal_on_logits_and_deltas : Cert.algebraic_KernelIdeal_ReferenceIdeal_on_logits_and_deltas := by
  intro m g m' g' _ hagree
  refine ⟨logits m, probs m, deltas m, ?_, ?_⟩
  · refine (θ_run _ _ _).mono (fun r h c => ?_) (Cert.KernelIdeal.Result.run m g)
    obtain ⟨⟨h0, _, h2⟩, hargs⟩ := h c
    exact ⟨fun i _ => congrFun (h0.trans (Cert.KernelIdeal.Result.logits_eq m c)) i,
      fun i hi => absurd (show (0#1 : BitVec 1) = 1#1 from hi) (by decide),
      fun i _ => congrFun (h2.trans (Cert.KernelIdeal.Result.deltas_eq m c)) i, hargs⟩
  · refine (θ_run _ _ _).mono (fun r h c => ?_) (Cert.ReferenceIdeal.Value.run (F := Ideal) m' g')
    obtain ⟨h0, _, h2, hargs⟩ := h c
    obtain ⟨a0, a1, a2, a3, a4, a5, a6⟩ := hagree c
    refine ⟨fun i _ => congrFun ((h0.trans (Cert.ReferenceIdeal.Read.val_main_v56_eq m' c)).trans ?_) i,
      fun i hi => absurd (show (0#1 : BitVec 1) = 1#1 from hi) (by decide),
      fun i _ => congrFun ((h2.trans (Cert.ReferenceIdeal.Read.val_main_v73_eq m' c)).trans ?_) i, hargs⟩
    · rw [a0, a1, a2, a3, a4]
    · rw [a0, a1, a2, a5, a6]

/-- The reference runs and leaves its arguments as they were. -/
theorem reference_frame : Cert.quiescent_ReferenceIdeal := by
  intro m g _
  refine (θ_run _ _ _).mono (fun r h => ⟨fun c => ?_, sem_eq_zero_of_no_sems (by decide) r.2⟩) (Cert.ReferenceIdeal.Value.run (F := Ideal) m g)
  obtain ⟨_, _, _, hargs⟩ := h c
  exact hargs

/-- Everything that is claimed. -/
theorem claim : Cert.Claim := ⟨Cert.Kernel.Gen.facts, Cert.KernelIdeal.Gen.facts, Cert.ReferenceIdeal.Gen.facts, Cert.Pre_finite.Gen.facts, Cert.On_logits_and_deltas.Gen.facts,
  fun m g _ => Cert.Kernel.Gen.frame m g, fun m g _ => Cert.KernelIdeal.Gen.frame m g, fun m g _ => Cert.KernelIdeal.Gen.frame m g,
  reference_frame, fun m g _ => reference_frame m g trivial, trivial, equal_finite, equal_on_logits_and_deltas⟩

end Cert.Proof

end
